-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32x8192 : Shape := ⟨3, ![128, 32, 8192]⟩
abbrev S4096x8192 : Shape := ⟨2, ![4096, 8192]⟩
abbrev S4096x8 : Shape := ⟨2, ![4096, 8]⟩
abbrev S512x4096 : Shape := ⟨2, ![512, 4096]⟩
abbrev S512x8 : Shape := ⟨2, ![512, 8]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S128x32x8 : Shape := ⟨3, ![128, 32, 8]⟩

abbrev nBuf : Space → Nat
  | .hbm => 4
  | .vmem => 5
  | .smem => 0
  | _ => 0

abbrev bufTy : (tb : Table) → Fin (tcTables nBuf tb) → BufTy
  | .hbm, ⟨0, _⟩ => ⟨S128x32x8192, .f32⟩
  | .hbm, ⟨1, _⟩ => ⟨S4096x8192, .f32⟩
  | .hbm, ⟨2, _⟩ => ⟨S4096x8, .f32⟩
  | .hbm, ⟨3, _⟩ => ⟨S128x32x8, .f32⟩
  | .local _ .vmem, ⟨0, _⟩ => ⟨S512x4096, .f32⟩
  | .local _ .vmem, ⟨1, _⟩ => ⟨S512x4096, .f32⟩
  | .local _ .vmem, ⟨2, _⟩ => ⟨S512x8, .f32⟩
  | .local _ .vmem, ⟨3, _⟩ => ⟨S512x8, .f32⟩
  | .local _ .vmem, ⟨4, _⟩ => ⟨S512x1024, .f32⟩
  | _, _ => ⟨S128x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32_35 : BitVec 32 := 1#32
  let v320 : BitVec 1 := Scalar.cmpi .eq arg1 c1_i32_35
  let v321 : BitVec 32 := Scalar.extui v320
  let c0_i32_36 : BitVec 32 := 0#32
  let v322 : BitVec 1 := Scalar.cmpi .ne v321 c0_i32_36
  v322

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReferenceIdeal.lean ====
abbrev S128x32x8192 : Shape := ⟨3, ![128, 32, 8192]⟩
abbrev S128x32x8 : Shape := ⟨3, ![128, 32, 8]⟩

abbrev nBuf : Space → Nat
  | .hbm => 3
  | .vmem => 0
  | .smem => 0
  | _ => 0

abbrev bufTy : (tb : Table) → Fin (tcTables nBuf tb) → BufTy
  | .hbm, ⟨0, _⟩ => ⟨S128x32x8192, .f32⟩
  | .hbm, ⟨1, _⟩ => ⟨S128x32x8, .f32⟩
  | .hbm, ⟨2, _⟩ => ⟨S128x32x8, .i32⟩
  | _, _ => ⟨S128x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩

abbrev nD : Nat := 1
abbrev τ : Topo := Topo.v7x

variable {F : FTy → Type} [FloatOps F]
-- ==== Proof.Network.lean ====
/- Comparator networks on eight values, and what they do, by thresholds: a value is known by which
   thresholds it reaches, `max` and `min` act on that question as `or` and `and`, and so what a network does to
   values of any linear order is what it does to booleans. -/
module

public import Mathlib.Order.Lattice
public import Mathlib.Order.Monotone.Basic
public import Mathlib.Data.Fintype.Basic
public import Mathlib.Data.Fintype.Pi
public import Mathlib.Algebra.BigOperators.Fin

@[expose] public section

namespace Cert.TopK

/-- One comparator: position `e.1` gets the greater of the two values, position `e.2` the lesser. -/
def exchange {α : Type} [LinearOrder α] (v : Fin 8 → α) (e : Fin 8 × Fin 8) : Fin 8 → α :=
  fun k => if k = e.1 then max (v e.1) (v e.2) else if k = e.2 then min (v e.1) (v e.2) else v k

/-- A network: its comparators, one after the other. -/
def network {α : Type} [LinearOrder α] (net : List (Fin 8 × Fin 8)) (v : Fin 8 → α) : Fin 8 → α :=
  net.foldl exchange v

/-- The nineteen comparators that sort eight values in descending order. -/
def sortNet : List (Fin 8 × Fin 8) :=
  [(0, 1), (2, 3), (4, 5), (6, 7), (0, 2), (1, 3), (4, 6), (5, 7), (1, 2), (5, 6),
   (0, 4), (1, 5), (2, 6), (3, 7), (2, 4), (3, 5), (1, 2), (3, 4), (5, 6)]

/-- The twelve comparators that sort eight values which first rise and then fall, or the reverse. -/
def bitonicNet : List (Fin 8 × Fin 8) :=
  [(0, 4), (1, 5), (2, 6), (3, 7), (0, 2), (1, 3), (4, 6), (5, 7), (0, 1), (2, 3), (4, 5), (6, 7)]

/-- Eight values sorted in descending order. -/
def sort8 {α : Type} [LinearOrder α] (v : Fin 8 → α) : Fin 8 → α := network sortNet v

/-- Of two descending lists of eight, the eight greatest in descending order: the first list against the second
    one reversed, the greater of each pair, and the result sorted. -/
def merge8 {α : Type} [LinearOrder α] (v w : Fin 8 → α) : Fin 8 → α :=
  network bitonicNet fun i => max (v i) (w (Fin.rev i))

/-- A monotone map commutes with a network. -/
theorem map_network {α β : Type} [LinearOrder α] [LinearOrder β] {f : α → β} (hf : Monotone f)
    (net : List (Fin 8 × Fin 8)) (v : Fin 8 → α) (i : Fin 8) :
    f (network net v i) = network net (fun k => f (v k)) i := by
  induction net generalizing v with
  | nil => rfl
  | cons e net ih =>
    show f (network net (exchange v e) i) = network net (exchange (fun k => f (v k)) e) i
    rw [ih]
    congr 1
    funext k
    unfold exchange
    split
    · exact hf.map_max
    · split
      · exact hf.map_min
      · rfl

/-- The question whether a value reaches the threshold `t`, as a monotone map to the booleans. -/
theorem monotone_reaches {α : Type} [LinearOrder α] (t : α) : Monotone fun x : α => decide (t ≤ x) := by
  intro a b h
  by_cases ha : t ≤ a
  · simp [ha, ha.trans h]
  · simp [ha]

/-- How many of eight values reach the threshold `t`. -/
def reach {α ι : Type} [LinearOrder α] [Fintype ι] (t : α) (v : ι → α) : ℕ := ∑ k, if t ≤ v k then 1 else 0

set_option maxRecDepth 100000 in
/-- The sorting network on booleans: position `i` is true when more than `i` of them are. -/
theorem sort8_bool : ∀ b : Fin 8 → Bool, ∀ i : Fin 8,
    sort8 b i = decide (i.val < ∑ k, if b k = true then 1 else 0) := by
  decide +kernel

set_option maxRecDepth 100000 in
/-- The merging network on descending booleans: the counts add. -/
theorem merge8_bool : ∀ n m : Fin 9, ∀ i : Fin 8,
    merge8 (fun k : Fin 8 => decide (k.val < n.val)) (fun k : Fin 8 => decide (k.val < m.val)) i
      = decide (i.val < n.val + m.val) := by
  decide +kernel

/-- The list `v` is the descending list of the eight greatest of a collection of which `c t` members reach the
    threshold `t`: position `i` reaches `t` exactly when more than `i` members do. -/
def Tops {α : Type} [LinearOrder α] (v : Fin 8 → α) (c : α → ℕ) : Prop :=
  ∀ t (i : Fin 8), t ≤ v i ↔ i.val < c t

/-- Sorting eight values lists them in descending order. -/
theorem tops_sort8 {α : Type} [LinearOrder α] (v : Fin 8 → α) : Tops (sort8 v) fun t => reach t v := by
  intro t i
  have h := map_network (monotone_reaches t) sortNet v i
  have h' := sort8_bool (fun k => decide (t ≤ v k)) i
  unfold sort8 at h' ⊢
  rw [h'] at h
  simpa [reach] using h

/-- A count below nine tells positions below eight apart as the count itself does. -/
theorem lt_min_eight (i : Fin 8) (n : ℕ) : i.val < min n 8 ↔ i.val < n := by omega

/-- Merging the eight greatest of two collections gives the eight greatest of both together. -/
theorem Tops.merge8 {α : Type} [LinearOrder α] {v w : Fin 8 → α} {c d : α → ℕ} (hv : Tops v c) (hw : Tops w d) :
    Tops (merge8 v w) fun t => c t + d t := by
  intro t i
  have h := map_network (monotone_reaches t) bitonicNet (fun i => max (v i) (w (Fin.rev i))) i
  have h' := merge8_bool ⟨min (c t) 8, by omega⟩ ⟨min (d t) 8, by omega⟩ i
  have hb : (fun k : Fin 8 => decide (t ≤ max (v k) (w (Fin.rev k))))
      = fun k => max (decide (k.val < min (c t) 8)) (decide ((Fin.rev k).val < min (d t) 8)) := by
    funext k
    rw [show max (decide (k.val < min (c t) 8)) (decide ((Fin.rev k).val < min (d t) 8))
      = (decide (k.val < min (c t) 8) || decide ((Fin.rev k).val < min (d t) 8)) from rfl]
    simp only [le_max_iff, hv t k, hw t (Fin.rev k), lt_min_eight, Bool.decide_or]
  rw [hb] at h
  unfold TopK.merge8 at h' ⊢
  rw [h'] at h
  rw [decide_eq_decide] at h
  rw [h]
  simp only
  omega

end Cert.TopK
-- ==== Proof.Body.lean ====
/- What one grid point computes, written with the networks of `Network.lean`: the four groups of eight slices of a
   block, each sorted and merged into one descending list of eight vectors (`groups`); that list stored into the
   scratch buffer (first half of the row), or merged with the one found there and then drained, one greatest value per round
   (`answer`, second half). -/
module

public import proofs.«01_k».proof.Proof.Network
public import proofs.«01_k».proof.Proof.Gen.KernelIdeal.Frame
public import Idealize.ShloMosaic.PureOps.Ideal.Laws

@[expose] public section

set_option maxRecDepth 16384

noncomputable section

namespace Cert.TopK

open Idealize.ShloMosaic Idealize.ShloMosaic.TcCoe Idealize.ShloMosaic.Tactic
open Cert.KernelIdeal Cert.KernelIdeal.Gen

/-- A vector of 512 rows by 128 lanes of extended reals. -/
abbrev Slab : Type := FVec Ideal S512x128 .f32

/-- Eight slabs sorted in descending order, element by element. -/
def slabSort (v : Fin 8 → Slab) : Fin 8 → Slab := fun i p => sort8 (α := Ideal .f32) (fun k => v k p) i

/-- Two descending lists of eight slabs merged into one, element by element. -/
def slabMerge (v w : Fin 8 → Slab) : Fin 8 → Slab :=
  fun i p => merge8 (α := Ideal .f32) (fun k => v k p) (fun k => w k p) i

/-- The eight greatest, element by element, of four groups of eight slabs. -/
def groups (x : Fin 4 → Fin 8 → Slab) : Fin 8 → Slab :=
  slabMerge (slabMerge (slabMerge (slabSort (x 0)) (slabSort (x 1))) (slabSort (x 2))) (slabSort (x 3))

/-- The number of each element's lane. -/
def lanes : IVec S512x128 32 := iota .tc S512x128 32 [1] iota_S512x128_d1_w32

/-- The greatest value of each row of a slab. -/
def rowMax (v : Slab) : FVec Ideal S512x1 .f32 :=
  shapeCast S512x1 (multiReduction .maximumf [1] S512 v 0xFF800000#32 reduces_S512x128_S512 (.inl rfl) rfl)
    shapeCasts_S512_S512x1

/-- In each row, the first lane at which the slab holds the row's greatest value. -/
def firstMax (v : Slab) : IVec S512x1 32 :=
  shapeCast S512x1
    (multiReductionI .minsi [1] S512
      (select (cmpf .oeq v (broadcastTo S512x128 (rowMax v) broadcasts_S512x1_S512x128)) lanes
        (broadcast S512x128 128#32)) 2147483647#32 reduces_S512x128_S512 rfl)
    shapeCasts_S512_S512x1

/-- The elements that a round takes out: one per row. -/
def taken (v : Slab) : IVec S512x128 1 :=
  cmpi .eq lanes (broadcastTo S512x128 (firstMax v) broadcasts_S512x1_S512x128)

/-- One round: where an element is taken out, the list below it moves up by one. (What the last position is filled with
    is never looked at again.) -/
def pop (s : Fin 8 → Slab) : Fin 8 → Slab := fun j => select (taken (s 0)) (s (j + 1)) (s j)

/-- The greatest value of each row at round `n`. -/
def pick (s : Fin 8 → Slab) (n : ℕ) : FVec Ideal S512x1 .f32 := rowMax (pop^[n] s 0)

/-- The eight rounds' values side by side. -/
def answer (s : Fin 8 → Slab) : FVec Ideal S512x8 .f32 :=
  concatenate S512x8 1 [⟨S512x1, pick s 0⟩, ⟨S512x1, pick s 1⟩, ⟨S512x1, pick s 2⟩, ⟨S512x1, pick s 3⟩,
    ⟨S512x1, pick s 4⟩, ⟨S512x1, pick s 5⟩, ⟨S512x1, pick s 6⟩, ⟨S512x1, pick s 7⟩]
    concatenates_S512x1_S512x1_S512x1_S512x1_S512x1_S512x1_S512x1_S512x1_S512x8_d1

/-- The rectangle of the input block that holds slice `j` of group `g`. -/
theorem inb_slice (g : Fin 4) (j : Fin 8) (a : Fin 2) :
    (![0, 1024 * g.val + 128 * j.val] : Fin 2 → ℕ) a + S512x128.size a ≤ S512x4096.size a := by
  match a with
  | ⟨0, _⟩ => exact le_refl 512
  | ⟨1, _⟩ => show 1024 * g.val + 128 * j.val + 128 ≤ 4096; omega

/-- The rectangle of the scratch buffer that holds list position `j`. -/
theorem inb_list (j : Fin 8) (a : Fin 2) :
    (![0, 128 * j.val] : Fin 2 → ℕ) a + S512x128.size a ≤ S512x1024.size a := by
  match a with
  | ⟨0, _⟩ => exact le_refl 512
  | ⟨1, _⟩ => show 128 * j.val + 128 ≤ 1024; omega

/-- Slice `j` of group `g` as the body loads it. -/
def loaded (arg2 : Memref sig .tc .vmem S512x4096 .f32) (harg2 : arg2.IsWhole) (x0 : Vec Ideal S512x4096 .f32)
    (g : Fin 4) (j : Fin 8) : Slab :=
  shapeCast S512x128 (View.readAt (Elt Ideal) arg2.view
    (Rect.unit (s := S512x4096) ![0, 1024 * g.val + 128 * j.val] S512x128.size (inb_slice g j)).toLoadRect
    (harg2.unread x0)) shapeCasts_S512x128_S512x128

/-- List position `j` of the scratch buffer as the body loads it. -/
def kept (arg4 : Memref sig .tc .vmem S512x1024 .f32) (harg4 : arg4.IsWhole) (xs0 : Vec Ideal S512x1024 .f32)
    (j : Fin 8) : Slab :=
  View.readAt (Elt Ideal) arg4.view
    (Rect.unit (s := S512x1024) ![0, 128 * j.val] S512x128.size (inb_list j)).toLoadRect (harg4.unread xs0)

/-- The store of list position `j` into the scratch buffer. -/
def stored (s : Fin 8 → Slab) (j : Fin 8) : View.Piece (Elt Ideal) S512x1024 .f32 :=
  ⟨Rect.unit (s := S512x1024) ![0, 128 * j.val] S512x128.size (inb_list j),
    shapeCast S512x128 (s j) shapeCasts_S512x128_S512x128⟩

/-- At a first point of a row block the body stores the list of its block into the scratch buffer. -/
theorem pieces_A (c : Dev nD) (i : grid0.Coords) (arg2 : Memref sig .tc .vmem S512x4096 .f32) (harg2 : arg2.IsWhole)
    (arg3 : Memref sig .tc .vmem S512x8 .f32) (harg3 : arg3.IsWhole) (arg4 : Memref sig .tc .vmem S512x1024 .f32)
    (harg4 : arg4.IsWhole) (hc0 : cond0_0 i) (hc1 : ¬cond0_1 i) (hc2 : ¬cond0_2 i) (x0 : Vec Ideal S512x4096 .f32) :
    (kernelRun0_A c i arg2 harg2 arg3 harg3 arg4 harg4 hc0 hc1 hc2 x0).2.1
      = [stored (groups (loaded arg2 harg2 x0)) 7, stored (groups (loaded arg2 harg2 x0)) 6,
         stored (groups (loaded arg2 harg2 x0)) 5, stored (groups (loaded arg2 harg2 x0)) 4,
         stored (groups (loaded arg2 harg2 x0)) 3, stored (groups (loaded arg2 harg2 x0)) 2,
         stored (groups (loaded arg2 harg2 x0)) 1, stored (groups (loaded arg2 harg2 x0)) 0] := by
  sl_kernel_rfl

/-- At a last point of a row block the body merges the list of its block with the one in the scratch buffer and stores
    what the eight rounds take out. -/
theorem pieces_B (c : Dev nD) (i : grid0.Coords) (arg2 : Memref sig .tc .vmem S512x4096 .f32) (harg2 : arg2.IsWhole)
    (arg3 : Memref sig .tc .vmem S512x8 .f32) (harg3 : arg3.IsWhole) (arg4 : Memref sig .tc .vmem S512x1024 .f32)
    (harg4 : arg4.IsWhole) (hc0 : ¬cond0_0 i) (hc1 : ¬cond0_1 i) (hc2 : cond0_2 i) (x0 : Vec Ideal S512x4096 .f32)
    (xs0 : Vec Ideal S512x1024 .f32) :
    (kernelRun0_B c i arg2 harg2 arg3 harg3 arg4 harg4 hc0 hc1 hc2 x0 xs0).1
      = [⟨Rect.unit (s := S512x8) ![0, 0] S512x8.size inb_S512x8_S512x8_0_0,
          answer (slabMerge (kept arg4 harg4 xs0) (groups (loaded arg2 harg2 x0)))⟩] := by
  sl_kernel_rfl

end Cert.TopK

end
-- ==== Proof.Drain.lean ====
/- Taking the greatest of many descending lists out, round by round: each round takes the greatest head among the lists
   (one lane each) and moves that lane's list up by one. By thresholds again: the round's value reaches `t` exactly when
   some member still there does, and the count of the members that reach `t` falls by one, or stays zero. -/
module

public import proofs.«01_k».proof.Proof.Network
public import Mathlib.Algebra.Order.BigOperators.Group.Finset

@[expose] public section

namespace Cert.TopK

variable {α ι : Type} [LinearOrder α]

/-- The lists `s · l`, one per lane `l`, hold the greatest of collections of which `c t l` members reach the threshold
    `t`, and are still right at the first `8 - d` positions. -/
def Stacked (d : ℕ) (s : Fin 8 → ι → α) (c : α → ι → ℕ) : Prop :=
  ∀ t l (j : Fin 8), j.val + d < 8 → (t ≤ s j l ↔ j.val < c t l)

/-- The counts after lane `x` has given up its greatest member. -/
def popCount [DecidableEq ι] (x : ι) (c : α → ι → ℕ) : α → ι → ℕ := fun t l => if l = x then c t l - 1 else c t l

/-- The greatest head reaches `t` exactly when some member does. -/
theorem Stacked.head [Fintype ι] {d : ℕ} {s : Fin 8 → ι → α} {c : α → ι → ℕ} (h : Stacked d s c) (hd : d < 8) {m : α}
    (hm : ∀ l, s 0 l ≤ m) {x : ι} (hx : s 0 x = m) (t : α) : t ≤ m ↔ 0 < ∑ l, c t l := by
  have h0 : ∀ l, t ≤ s 0 l ↔ 0 < c t l := fun l => h t l 0 (by simpa using hd)
  constructor
  · intro ht
    have := (h0 x).mp (hx ▸ ht)
    exact lt_of_lt_of_le this (Finset.single_le_sum (f := c t) (fun _ _ => Nat.zero_le _) (Finset.mem_univ x))
  · intro hs
    obtain ⟨l, -, hl⟩ := Finset.exists_ne_zero_of_sum_ne_zero hs.ne'
    exact ((h0 l).mpr (Nat.pos_of_ne_zero hl)).trans (hm l)

/-- Moving the chosen lane's list up by one leaves lists of the members that remain, right at one position fewer. -/
theorem Stacked.pop [DecidableEq ι] {d : ℕ} {s s' : Fin 8 → ι → α} {c : α → ι → ℕ} (h : Stacked d s c) {x : ι}
    (hs : ∀ (j : Fin 8) l, s' j l = if l = x then s (j + 1) l else s j l) : Stacked (d + 1) s' (popCount x c) := by
  intro t l j hj
  rw [hs]
  unfold popCount
  have hv : (j + 1).val = j.val + 1 := Fin.val_add_one_of_lt (by rw [Fin.lt_def]; show j.val < 7; omega)
  split
  · rw [h t l (j + 1) (by omega), hv]
    omega
  · exact h t l j (by omega)

/-- The members that reach `t` are one fewer in all (or none, if there were none). -/
theorem Stacked.sum_pop [Fintype ι] [DecidableEq ι] {d : ℕ} {s : Fin 8 → ι → α} {c : α → ι → ℕ} (h : Stacked d s c)
    (hd : d < 8) {m : α} (hm : ∀ l, s 0 l ≤ m) {x : ι} (hx : s 0 x = m) (t : α) :
    ∑ l, popCount x c t l = (∑ l, c t l) - 1 := by
  have hsplit : ∀ f : ι → ℕ, ∑ l, f l = f x + ∑ l ∈ Finset.univ.erase x, f l :=
    fun f => (Finset.add_sum_erase _ f (Finset.mem_univ x)).symm
  have hrest : ∑ l ∈ Finset.univ.erase x, popCount x c t l = ∑ l ∈ Finset.univ.erase x, c t l :=
    Finset.sum_congr rfl fun l hl => if_neg (Finset.ne_of_mem_erase hl)
  have hxx : popCount x c t x = c t x - 1 := if_pos rfl
  have h0 : t ≤ s 0 x ↔ 0 < c t x := h t x 0 (by simpa using hd)
  have hsum := h.head hd hm hx t
  rw [hsplit, hrest, hxx, hsplit (c t)]
  rw [hsplit (c t)] at hsum
  by_cases ht : t ≤ m
  · have := h0.mp (hx ▸ ht)
    omega
  · have : ¬ 0 < c t x + ∑ l ∈ Finset.univ.erase x, c t l := fun e => ht (hsum.mpr e)
    omega

end Cert.TopK
-- ==== Proof.Rounds.lean ====
/- The rounds of the kernel read row by row: the reductions over the lanes pick the greatest value and a lane that holds
   it, the selects move that lane's list up by one, and so round `n` gives the value that reaches a threshold exactly
   when more than `n` of the row's members do. -/
module

public import proofs.«01_k».proof.Proof.Body
public import proofs.«01_k».proof.Proof.Drain
public import Idealize.ShloMosaic.Lib.ValueLayoutCasts
public import Idealize.ShloMosaic.Lib.ValueIdx
public import Idealize.ShloMosaic.Lib.SortNet.Extract
public import Idealize.ShloMosaic.Lib.Pipeline.Value

@[expose] public section

noncomputable section

namespace Cert.TopK

open Idealize.ShloMosaic Idealize.ShloMosaic.ValueIdx
open Cert.KernelIdeal Cert.KernelIdeal.Gen

/-- The source index of the reduction over the lanes, by its row and lane. -/
theorem lift_lane (r : Fin 512) (l : Fin 128) : reduces_S512x128_S512.lift (ix1 r) l = ix2 r l := by
  funext a
  match a with
  | ⟨0, _⟩ => rfl
  | ⟨1, _⟩ => rfl

/-- The value that fills an empty maximum is below everything. -/
theorem neutral_max : (FloatOps.ofBits .f32 0xFF800000#32 : Ideal .f32) = (⊥ : EReal) := by
  show Ideal.ofBits .f32 0xFF800000#32 = ⊥
  simp [Ideal.ofBits, Ideal.ieee]

/-- A row's greatest value is the maximum over its lanes. -/
theorem rowMax_eq (v : Slab) (r : Fin 512) (u : Fin 1) :
    rowMax v (ix2 r u) = (Finset.univ : Finset (Fin 128)).fold max (⊥ : EReal) fun l => v (ix2 r l) := by
  classical
  unfold rowMax
  rw [shapeCast_a_a1_apply]
  refine (multiReduction_maximumf_eq_fold ..).trans ?_
  rw [Shape.Reduces.fold_filter_drop_single, neutral_max]
  exact Finset.fold_congr fun l _ => congrArg v (lift_lane r l)

/-- It is at least every lane's value, -/
theorem le_rowMax (v : Slab) (r : Fin 512) (u : Fin 1) (l : Fin 128) : (v (ix2 r l) : EReal) ≤ rowMax v (ix2 r u) := by
  rw [rowMax_eq, Finset.le_fold_max]
  exact Or.inr ⟨l, Finset.mem_univ l, le_refl _⟩

/-- and some lane's. -/
theorem exists_rowMax (v : Slab) (r : Fin 512) (u : Fin 1) : ∃ l : Fin 128, (v (ix2 r l) : EReal) = rowMax v (ix2 r u) := by
  have h : rowMax v (ix2 r u) ≤ (Finset.univ : Finset (Fin 128)).fold max (⊥ : EReal) fun l => v (ix2 r l) :=
    (rowMax_eq v r u).le
  rw [Finset.le_fold_max] at h
  rcases h with h | ⟨l, -, h⟩
  · exact ⟨0, le_antisymm (le_rowMax v r u 0) (h.trans bot_le)⟩
  · exact ⟨l, le_antisymm (le_rowMax v r u l) h⟩

/-- The number of a lane. -/
theorem lanes_apply (r : Fin 512) (l : Fin 128) : lanes (ix2 r l) = BitVec.ofNat 32 l.val := by
  show BitVec.ofNat 32 (0 * 128 + l.val) = _
  rw [Nat.zero_mul, Nat.zero_add]

/-- A lane's number read as a signed word. -/
theorem toInt_lane (l : Fin 128) : (BitVec.ofNat 32 l.val).toInt = l.val := by
  rw [BitVec.toInt_ofNat']
  have := l.isLt
  rw [Int.bmod_eq_of_le] <;> omega

/-- Lane `l`'s word among those the minimum is taken over: its number where it holds the row's greatest value, 128
    elsewhere. -/
def laneWord (v : Slab) (r : Fin 512) (l : Fin 128) : BitVec 32 :=
  if (v (ix2 r l) : EReal) = rowMax v (ix2 r 0) then BitVec.ofNat 32 l.val else 128#32

/-- The first lane's word is the least of those. -/
theorem firstMax_eq (v : Slab) (r : Fin 512) :
    firstMax v (ix2 r 0) = (Finset.univ : Finset (Fin 128)).fold IntOp.minsi 2147483647#32 (laneWord v r) := by
  classical
  unfold firstMax
  rw [shapeCast_a_a1_apply]
  refine (multiReductionI_eq_fold ..).trans ?_
  rw [Shape.Reduces.fold_filter_drop_single]
  refine Finset.fold_congr fun (l : Fin 128) _ => ?_
  refine (congrArg (select _ _ _) (lift_lane r l)).trans ?_
  rw [select_apply, cmpf_apply, lanes_apply,
    broadcastTo_apply _ _ (ix2 r l) (ix2 r (0 : Fin 1)) (by intro a; match a with | ⟨0, _⟩ => rfl | ⟨1, _⟩ => rfl)]
  unfold laneWord Scalar.select
  show (if Ideal.cmp .oeq _ _ = 1 then _ else _) = _
  unfold Ideal.cmp
  by_cases h : (v (ix2 r l) : EReal) = rowMax v (ix2 r 0)
  · simp [h]
  · simp [h, broadcast]

/-- The lane chosen holds the row's greatest value. -/
theorem exists_firstMax (v : Slab) (r : Fin 512) :
    ∃ x : Fin 128, (v (ix2 r x) : EReal) = rowMax v (ix2 r 0) ∧ firstMax v (ix2 r 0) = BitVec.ofNat 32 x.val := by
  have hfold : (firstMax v (ix2 r 0)).toInt
      = (Finset.univ : Finset (Fin 128)).fold min (2147483647#32 : BitVec 32).toInt fun l => (laneWord v r l).toInt := by
    rw [firstMax_eq]
    exact (Finset.fold_hom (op := IntOp.minsi) (op' := min) (m := BitVec.toInt) fun a b => SortNet.toInt_minsi a b).symm
  obtain ⟨l₀, h₀⟩ := exists_rowMax v r 0
  have hle : (firstMax v (ix2 r 0)).toInt ≤ l₀.val := by
    rw [hfold, Finset.fold_min_le]
    refine Or.inr ⟨l₀, Finset.mem_univ _, ?_⟩
    rw [laneWord, if_pos h₀, toInt_lane]
  have hl₀ := l₀.isLt
  have hself := hfold.ge
  rw [Finset.fold_min_le] at hself
  rcases hself with hself | ⟨x, -, hx⟩
  · exfalso
    have : (2147483647#32 : BitVec 32).toInt = 2147483647 := by decide
    omega
  · have hval : (v (ix2 r x) : EReal) = rowMax v (ix2 r 0) := by
      by_contra hne
      rw [laneWord, if_neg hne] at hx
      have : (128#32 : BitVec 32).toInt = 128 := by decide
      omega
    refine ⟨x, hval, BitVec.eq_of_toInt_eq (le_antisymm ?_ ?_)⟩
    · rw [hfold, Finset.fold_min_le]
      refine Or.inr ⟨x, Finset.mem_univ _, ?_⟩
      rw [laneWord, if_pos hval]
    · rw [laneWord, if_pos hval] at hx
      exact hx

/-- One round on row `r`: the list of one lane, which holds the row's greatest value, moves up by one. -/
theorem exists_pop (s : Fin 8 → Slab) (r : Fin 512) :
    ∃ x : Fin 128, (s 0 (ix2 r x) : EReal) = rowMax (s 0) (ix2 r 0)
      ∧ ∀ (j : Fin 8) (l : Fin 128), pop s j (ix2 r l) = if l = x then s (j + 1) (ix2 r l) else s j (ix2 r l) := by
  obtain ⟨x, hx, hw⟩ := exists_firstMax (s 0) r
  refine ⟨x, hx, fun j l => ?_⟩
  unfold pop
  rw [select_apply]
  have ht : taken (s 0) (ix2 r l) = IntOp.cmpi .eq (BitVec.ofNat 32 l.val) (BitVec.ofNat 32 x.val) := by
    unfold taken
    show IntOp.cmpi .eq (lanes (ix2 r l)) _ = _
    rw [lanes_apply,
      broadcastTo_apply _ _ (ix2 r l) (ix2 r (0 : Fin 1)) (by intro a; match a with | ⟨0, _⟩ => rfl | ⟨1, _⟩ => rfl), hw]
  rw [ht]
  unfold Scalar.select IntOp.cmpi
  by_cases h : l = x
  · subst h
    simp
  · have hne : BitVec.ofNat 32 l.val ≠ BitVec.ofNat 32 x.val := by
      intro e
      have := congrArg BitVec.toInt e
      rw [toInt_lane, toInt_lane] at this
      exact h (Fin.ext (by omega))
    have hb : (BitVec.ofNat 32 l.val == BitVec.ofNat 32 x.val) = false := beq_eq_false_iff_ne.mpr hne
    rw [if_neg h, if_neg]
    show ¬ BitVec.ofBool (BitVec.ofNat 32 l.val == BitVec.ofNat 32 x.val) = 1
    rw [hb]
    decide

/-- Round `n + 1` is round `n` of what the first round leaves. -/
theorem pick_succ (s : Fin 8 → Slab) (n : ℕ) : pick s (n + 1) = pick (pop s) n := by
  unfold pick
  rw [Function.iterate_succ_apply]

/-- Round `n` from a state right at `8 - d` positions: its value reaches `t` exactly when more than `n` of the row's
    members do. -/
theorem pick_reaches (n : ℕ) : ∀ (d : ℕ) (s : Fin 8 → Slab) (r : Fin 512) (c : EReal → Fin 128 → ℕ),
    Stacked (α := EReal) d (fun j l => s j (ix2 r l)) c → d + n < 8 → ∀ t : EReal,
      (t ≤ pick s n (ix2 r 0) ↔ n < ∑ l, c t l) := by
  induction n with
  | zero =>
    intro d s r c h hd t
    obtain ⟨x, hx⟩ := exists_rowMax (s 0) r 0
    exact h.head (by omega) (fun l => le_rowMax (s 0) r 0 l) hx t
  | succ n ih =>
    intro d s r c h hd t
    obtain ⟨x, hx, hp⟩ := exists_pop s r
    have h' : Stacked (α := EReal) (d + 1) (fun j l => pop s j (ix2 r l)) (popCount x c) := h.pop hp
    have hsum := h.sum_pop (by omega) (fun l => le_rowMax (s 0) r 0 l) hx t
    have := ih (d + 1) (pop s) r (popCount x c) h' (by omega) t
    refine Iff.trans (b := t ≤ pick (pop s) n (ix2 r 0)) (Iff.of_eq ?_) (this.trans ?_)
    · rw [pick_succ]
    · rw [hsum]
      omega

end Cert.TopK

end
-- ==== Proof.Blocks.lean ====
/- What the body's loads and stores hold, element by element: the slices of the input block, the list in the scratch
   buffer, and the result block, each told by which thresholds it reaches. -/
module

public import proofs.«01_k».proof.Proof.Rounds
public import Idealize.ShloMosaic.Lib.WholeRead
public import Idealize.ShloMosaic.Lib.WritesUnit
public import Idealize.ShloMosaic.Lib.Pipeline.ValueKit.Tiles

@[expose] public section

set_option maxRecDepth 16384

noncomputable section

namespace Cert.TopK

open Idealize.ShloMosaic Idealize.ShloMosaic.TcCoe Idealize.ShloMosaic.ValueIdx
open Cert.KernelIdeal Cert.KernelIdeal.Gen

/-- The column of the input block at lane `l` of slice `j` of group `g`. -/
def blockCol (g : Fin 4) (j : Fin 8) (l : Fin 128) : Fin 4096 := ⟨1024 * g.val + 128 * j.val + l.val, by omega⟩

/-- The column of the scratch buffer at lane `l` of list position `j`. -/
def listCol (j : Fin 8) (l : Fin 128) : Fin 1024 := ⟨128 * j.val + l.val, by omega⟩

/-- How many of the 32 elements of row `r` of a block that sit at lane `l` reach `t`. -/
def laneCount (x0 : Vec Ideal S512x4096 .f32) (r : Fin 512) (t : EReal) (l : Fin 128) : ℕ :=
  ∑ g : Fin 4, reach (α := EReal) t fun j : Fin 8 => x0 (ix2 r (blockCol g j l))

/-- A loaded slice holds the block's elements. -/
theorem loaded_apply (arg2 : Memref sig .tc .vmem S512x4096 .f32) (harg2 : arg2.IsWhole)
    (x0 : Vec Ideal S512x4096 .f32) (g : Fin 4) (j : Fin 8) (r : Fin 512) (l : Fin 128) :
    loaded arg2 harg2 x0 g j (ix2 r l) = x0 (ix2 r (blockCol g j l)) := by
  unfold loaded
  refine (congrFun (shapeCast_self (s := S512x128) _ _) _).trans ?_
  refine (Memref.IsWhole.readAt_unread harg2 x0 _ _).trans (congrArg x0 ?_)
  funext a
  apply Fin.ext
  match a with
  | ⟨0, _⟩ => show 0 + 1 * r.val = r.val; omega
  | ⟨1, _⟩ => show 1024 * g.val + 128 * j.val + 1 * l.val = 1024 * g.val + 128 * j.val + l.val; omega

/-- A loaded list position holds the scratch buffer's elements. -/
theorem kept_apply (arg4 : Memref sig .tc .vmem S512x1024 .f32) (harg4 : arg4.IsWhole)
    (xs0 : Vec Ideal S512x1024 .f32) (j : Fin 8) (r : Fin 512) (l : Fin 128) :
    kept arg4 harg4 xs0 j (ix2 r l) = xs0 (ix2 r (listCol j l)) := by
  unfold kept
  refine (Memref.IsWhole.readAt_unread harg4 xs0 _ _).trans (congrArg xs0 ?_)
  funext a
  apply Fin.ext
  match a with
  | ⟨0, _⟩ => show 0 + 1 * r.val = r.val; omega
  | ⟨1, _⟩ => show 128 * j.val + 1 * l.val = 128 * j.val + l.val; omega

/-- The list of four groups of eight holds the greatest of the 32 elements. -/
theorem tops_groups (x : Fin 4 → Fin 8 → Slab) (p : S512x128.Idx) :
    Tops (α := EReal) (fun j => groups x j p) fun t => ∑ g : Fin 4, reach (α := EReal) t fun k => x g k p := by
  have h : ∀ g, Tops (α := EReal) (fun j => slabSort (x g) j p) fun t => reach (α := EReal) t fun k => x g k p :=
    fun g => tops_sort8 (α := EReal) fun k => x g k p
  have := (((h 0).merge8 (h 1)).merge8 (h 2)).merge8 (h 3)
  simp only [Fin.sum_univ_four]
  exact this

/-- So the list of a block holds, at row `r` and lane `l`, the greatest of the block's elements there. -/
theorem tops_loaded (arg2 : Memref sig .tc .vmem S512x4096 .f32) (harg2 : arg2.IsWhole)
    (x0 : Vec Ideal S512x4096 .f32) (r : Fin 512) (l : Fin 128) :
    Tops (α := EReal) (fun j => groups (loaded arg2 harg2 x0) j (ix2 r l)) fun t => laneCount x0 r t l := by
  have h := tops_groups (loaded arg2 harg2 x0) (ix2 r l)
  simp only [loaded_apply] at h
  exact h

/-- What a first point of a row block leaves in the scratch buffer, read at a list position. -/
theorem sout_apply (c : Dev nD) (i : grid0.Coords) (arg2 : Memref sig .tc .vmem S512x4096 .f32) (harg2 : arg2.IsWhole)
    (arg3 : Memref sig .tc .vmem S512x8 .f32) (harg3 : arg3.IsWhole) (arg4 : Memref sig .tc .vmem S512x1024 .f32)
    (harg4 : arg4.IsWhole) (hc0 : cond0_0 i) (hc1 : ¬cond0_1 i) (hc2 : ¬cond0_2 i) (x0 : Vec Ideal S512x4096 .f32)
    (j : Fin 8) (r : Fin 512) (l : Fin 128) :
    sout0_A_0 c i arg2 harg2 arg3 harg3 arg4 harg4 hc0 hc1 hc2 x0 (ix2 r (listCol j l))
      = groups (loaded arg2 harg2 x0) j (ix2 r l) := by
  unfold sout0_A_0
  rw [pieces_A]
  generalize groups (loaded arg2 harg2 x0) = s
  have h := View.read_tilePieces (Val := Elt Ideal) (s := S512x1024) (e := .f32) (NT := 8) VS0_0 VS0_0.junk S512x128.size
    (fun j : Fin 8 => ![0, 128 * j.val]) (fun j => inb_list j)
    (fun j => shapeCast S512x128 (s j) shapeCasts_S512x128_S512x128) 8 le_rfl (ix2 r (listCol j l)) j j.isLt (ix2 r l)
    (by
      intro a
      match a with
      | ⟨0, _⟩ => exact (Nat.zero_add r.val).symm
      | ⟨1, _⟩ => rfl)
    (1 : Fin 2) (by
      intro i' hne
      have : i'.val ≠ j.val := fun e => hne (Fin.ext e)
      show 128 * j.val + l.val < 128 * i'.val ∨ 128 * i'.val + 128 ≤ 128 * j.val + l.val
      omega)
  rw [shapeCast_self] at h
  exact h

/-- The rounds' values side by side, read at column `k`: round `k`'s. -/
theorem answer_apply (s : Fin 8 → Slab) (r : Fin 512) (k : Fin 8) :
    answer s (ix2 r k) = pick s k.val (ix2 r 0) :=
  concatenate_ofFn_unit_apply (t := S512x8) (s₁ := S512x1) (1 : Fin 2) (fun k : Fin 8 => pick s k.val) _ rfl rfl
    (ix2 r k) k rfl (ix2 r 0) (by
      intro b hb
      match b with
      | ⟨0, _⟩ => rfl
      | ⟨1, _⟩ => exact absurd rfl hb)

/-- A store that covers the result block leaves its payload there. -/
theorem read_result (w : FVec Ideal S512x8 .f32) (p : S512x8.Idx) :
    VO0_1.read (Elt Ideal) (VO0_1.writes (Elt Ideal) VO0_1.junk
      [⟨Rect.unit (s := S512x8) ![0, 0] S512x8.size inb_S512x8_S512x8_0_0, w⟩]) p = w p :=
  View.read_writes_cons_unit_of_mem (Val := Elt Ideal) (s := S512x8) (e := .f32) (off := ![0, 0]) (off' := ![0, 0])
    (size := S512x8.size) VO0_1 VO0_1.junk inb_S512x8_S512x8_0_0 w [] p p rfl (by
      intro a
      match a with
      | ⟨0, _⟩ => exact (Nat.zero_add _).symm
      | ⟨1, _⟩ => exact (Nat.zero_add _).symm)

/-- What a last point of a row block leaves in the result block: what the eight rounds take out of the list found in the
    scratch buffer merged with the block's. -/
theorem out_eq (c : Dev nD) (i : grid0.Coords) (arg2 : Memref sig .tc .vmem S512x4096 .f32) (harg2 : arg2.IsWhole)
    (arg3 : Memref sig .tc .vmem S512x8 .f32) (harg3 : arg3.IsWhole) (arg4 : Memref sig .tc .vmem S512x1024 .f32)
    (harg4 : arg4.IsWhole) (hc0 : ¬cond0_0 i) (hc1 : ¬cond0_1 i) (hc2 : cond0_2 i) (x0 : Vec Ideal S512x4096 .f32)
    (xs0 : Vec Ideal S512x1024 .f32) (p : S512x8.Idx) :
    out0_B_1 c i arg2 harg2 arg3 harg3 arg4 harg4 hc0 hc1 hc2 x0 xs0 p
      = answer (slabMerge (kept arg4 harg4 xs0) (groups (loaded arg2 harg2 x0))) p := by
  unfold out0_B_1
  rw [pieces_B]
  exact read_result _ p

/-- What a last point of a row block leaves in the result block: its value at row `r`, column `k` reaches `t` exactly
    when more than `k` of the row's elements do, counted in this block and, by the list found in the scratch buffer, in
    the ones before. -/
theorem out_reaches (c : Dev nD) (i : grid0.Coords) (arg2 : Memref sig .tc .vmem S512x4096 .f32) (harg2 : arg2.IsWhole)
    (arg3 : Memref sig .tc .vmem S512x8 .f32) (harg3 : arg3.IsWhole) (arg4 : Memref sig .tc .vmem S512x1024 .f32)
    (harg4 : arg4.IsWhole) (hc0 : ¬cond0_0 i) (hc1 : ¬cond0_1 i) (hc2 : cond0_2 i) (x0 : Vec Ideal S512x4096 .f32)
    (xs0 : Vec Ideal S512x1024 .f32) (r : Fin 512) (d : EReal → Fin 128 → ℕ)
    (hxs : ∀ l : Fin 128, Tops (α := EReal) (fun j => xs0 (ix2 r (listCol j l))) fun t => d t l) (k : Fin 8) (t : EReal) :
    t ≤ out0_B_1 c i arg2 harg2 arg3 harg3 arg4 harg4 hc0 hc1 hc2 x0 xs0 (ix2 r k)
      ↔ k.val < ∑ l, (d t l + laneCount x0 r t l) := by
  rw [out_eq, answer_apply]
  refine pick_reaches k.val 0 _ r (fun t l => d t l + laneCount x0 r t l) ?_ (by omega) t
  intro t l j _
  have hk : Tops (α := EReal) (fun j => kept arg4 harg4 xs0 j (ix2 r l)) fun t => d t l := by
    simp only [kept_apply]
    exact hxs l
  exact (hk.merge8 (tops_loaded arg2 harg2 x0 r l)) t j

end Cert.TopK

end
-- ==== Proof.Final.lean ====
/- From the blocks to the whole result: which row and columns of the argument a grid point's block is, how the counts of a
   row's two halves add up to the count of the row, and what the result array and its reshape end holding. -/
module

public import proofs.«01_k».proof.Proof.Blocks
public import Idealize.ShloMosaic.Lib.Claim
public import Idealize.ShloMosaic.Lib.StableHlo.Run

@[expose] public section

set_option maxRecDepth 16384

noncomputable section

namespace Cert.TopK

open Idealize.ShloMosaic Idealize.ShloMosaic.TcCoe Idealize.ShloMosaic.ValueIdx Idealize.SL.Sem
open Cert.KernelIdeal Cert.KernelIdeal.Gen

/-! ## Counts -/

/-- A sum over `m * n` positions, `m` runs of `n` at a time. -/
theorem sum_runs {m n N : ℕ} (h : m * n = N) (f : Fin N → ℕ) :
    ∑ x, f x = ∑ i : Fin m, ∑ j : Fin n, f ⟨n * i.val + j.val, by
      have h1 := i.isLt
      have h2 := j.isLt
      calc n * i.val + j.val < n * i.val + n := by omega
        _ = n * (i.val + 1) := by ring
        _ ≤ n * m := Nat.mul_le_mul_left n h1
        _ = N := by rw [Nat.mul_comm, h]⟩ := by
  subst h
  rw [← Equiv.sum_comp finProdFinEquiv, Fintype.sum_prod_type]
  refine Finset.sum_congr rfl fun i _ => Finset.sum_congr rfl fun j _ => congrArg f (Fin.ext ?_)
  show j.val + n * i.val = n * i.val + j.val
  omega

/-- The lanes' counts add up to the count of the block's row. -/
theorem sum_laneCount (x0 : Vec Ideal S512x4096 .f32) (r : Fin 512) (t : EReal) :
    ∑ l, laneCount x0 r t l = reach (α := EReal) t fun n : Fin 4096 => x0 (ix2 r n) := by
  unfold laneCount reach
  rw [sum_runs (m := 4) (n := 1024) rfl, Finset.sum_comm]
  refine Finset.sum_congr rfl fun g _ => ?_
  rw [sum_runs (m := 8) (n := 128) rfl, Finset.sum_comm]
  refine Finset.sum_congr rfl fun k _ => Finset.sum_congr rfl fun l _ => ?_
  have e : blockCol g k l = ⟨1024 * g.val + (128 * k.val + l.val), by omega⟩ :=
    Fin.ext (Nat.add_assoc _ _ _)
  exact congrArg (fun x => if (t : EReal) ≤ x0 (ix2 r x) then 1 else 0) e

/-- The counts of a row's two halves add up to the row's. -/
theorem reach_halves (f : Fin 8192 → EReal) (t : EReal) :
    reach t f = (reach t fun n : Fin 4096 => f ⟨n.val, by omega⟩) + reach t fun n : Fin 4096 => f ⟨4096 + n.val, by omega⟩ := by
  unfold reach
  rw [sum_runs (m := 2) (n := 4096) rfl, Fin.sum_univ_two]
  refine congrArg₂ (· + ·) (Finset.sum_congr rfl fun n _ => ?_) (Finset.sum_congr rfl fun n _ => ?_)
  · have e : (⟨4096 * (0 : Fin 2).val + n.val, by show 4096 * 0 + n.val < 8192; omega⟩ : Fin 8192) = ⟨n.val, by omega⟩ :=
      Fin.ext (by show 4096 * 0 + n.val = n.val; omega)
    rw [e]
  · rfl

/-! ## The blocks -/

variable (m : (ℓ : Loc nD τ sig) → Buf (Elt Ideal) ℓ) (ρ : Dev nD → PrngReg)

/-- The argument as the kernel's rows: 4096 of 8192. -/
abbrev rows (c : Dev nD) : Vec Ideal S4096x8192 .f32 := V m c main_v0

/-- Grid point `t` reads rows `512 (t / 2) …` and columns `4096 (t % 2) …`, -/
theorem index_in : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)

/-- and writes rows `512 (t / 2) …`. -/
theorem index_out : ∀ t : Fin cfg0.N, win0_1.index t 0 = t.val / 2 ∧ win0_1.index t 1 = 0 :=
  (by decide +kernel : ∀ t : Fin grid0.N, win0_1.index t 0 = t.val / 2 ∧ win0_1.index t 1 = 0)

/-- The row of the argument at row `r` of grid point `t`'s block. -/
def rowOf (t : Fin cfg0.N) (r : Fin 512) : Fin 4096 :=
  ⟨512 * (t.val / 2) + r.val, by have h : cfg0.N = 16 := N_0; have := t.isLt; omega⟩

/-- The block a grid point reads, element by element. -/
theorem iblk_apply (c : Dev nD) (t : Fin cfg0.N) (r : Fin 512) (n : Fin 4096) :
    (iblk m c 0 t : Vec Ideal S512x4096 .f32) (ix2 r n)
      = rows m c (ix2 (rowOf t r) ⟨4096 * (t.val % 2) + n.val, by omega⟩) := by
  unfold iblk
  rw [View.read_apply]
  show V m c main_v0 _ = V m c main_v0 _
  congr 1
  funext a
  apply Fin.ext
  match a with
  | ⟨0, _⟩ => show win0_0.index t 0 * 512 + 1 * r.val = 512 * (t.val / 2) + r.val; rw [(index_in t).1]; omega
  | ⟨1, _⟩ => show win0_0.index t 1 * 4096 + 1 * n.val = 4096 * (t.val % 2) + n.val; rw [(index_in t).2]; omega

/-- What the second point of a row block writes back: at row `r`, column `k` the value that reaches `t` exactly when more
    than `k` of the 8192 elements of that row do. -/
theorem written_reaches (c : Dev nD) (u : Fin cfg0.N) (hu : u.val % 2 = 1) (r : Fin 512) (k : Fin 8) (t : EReal) :
    t ≤ (outsAt0 m c u.val u.isLt).1 (ix2 r k)
      ↔ k.val < reach (α := EReal) t fun n : Fin 8192 => rows m c (ix2 (rowOf u r) n) := by
  obtain ⟨p, hp⟩ : ∃ p : Fin cfg0.N, p.val = u.val - 1 := ⟨⟨u.val - 1, by have := u.isLt; omega⟩, rfl⟩
  have hp2 : p.val / 2 = u.val / 2 := by omega
  have hp0 : p.val % 2 = 0 := by omega
  have hprev : ∀ h, (outsAt0 m c (u.val - 1) h).2 = (outsAt0 m c p.val p.isLt).2 := by
    intro h
    congr 1
    congr 1
    exact hp.symm
  have hrow : rowOf p r = rowOf u r := Fin.ext (by unfold rowOf; dsimp only; rw [hp2])
  have hcount : (reach (α := EReal) t fun n : Fin 8192 => rows m c (ix2 (rowOf u r) n))
      = ∑ l, (laneCount (iblk m c 0 p) r t l + laneCount (iblk m c 0 u) r t l) := by
    rw [Finset.sum_add_distrib, sum_laneCount, sum_laneCount, reach_halves]
    simp only [iblk_apply, hrow, hp0, hu]
    simp
  rw [outsAt0_B m c u (by omega) hu, hcount]
  dsimp only
  refine out_reaches c _ _ _ _ _ _ _ _ _ _ _ _ r (fun t l => laneCount (iblk m c 0 p) r t l) (fun l => ?_) k t
  rw [hprev, outsAt0_A m c p hp0 (by omega)]
  dsimp only
  simp only [sout_apply]
  exact tops_loaded _ _ _ r l

/-! ## The result -/

/-- The result array of the kernel, by its thresholds. -/
theorem array_reaches (c : Dev nD) (R : Fin 4096) (k : Fin 8) (t : EReal) :
    t ≤ ((dats m 0 c).arrAt 1 cfg0.N : Vec Ideal S4096x8 .f32) (ix2 R k)
      ↔ k.val < reach (α := EReal) t fun n : Fin 8192 => rows m c (ix2 R n) := by
  have h := (dats m 0 c).arrAt_forall_of_cover 1
    (fun (i : S4096x8.Idx) (v : EReal) => ∀ t : EReal,
      t ≤ v ↔ (i 1).val < reach (α := EReal) t fun n : Fin 8192 => rows m c (ix2 (i 0) n))
    (by
      intro u hf y t
      have hu : u.val % 2 = 1 := (flush0_1 u).mp hf
      have hw := written_reaches m c u hu (y 0) (y 1) t
      have hy : (ix2 (y 0) (y 1) : S512x8.Idx) = y := (eq_ix2 y).symm
      have hv : _root_.cast (congrArg (Elt Ideal) ((cfg0.win 1).blk u).view.elt_eq.symm) ((dats m 0 c).flushed 1 u y)
          = (outsAt0 m c u.val u.isLt).1 y := by
        show (cfg0.win 1).cut (grid0.coords u) ((dats m 0 c).after 1 u) y = _
        rw [after0_1]
      have h0 : ((((cfg0.win 1).blk u).view.emb y : S4096x8.Idx) 0) = rowOf u (y 0) := by
        apply Fin.ext
        show win0_1.index u 0 * 512 + 1 * (y 0).val = 512 * (u.val / 2) + (y 0).val
        rw [(index_out u).1]
        omega
      have h1 : (((((cfg0.win 1).blk u).view.emb y : S4096x8.Idx) 1) : ℕ) = (y 1).val := by
        show win0_1.index u 1 * 8 + 1 * (y 1).val = (y 1).val
        rw [(index_out u).2]
        omega
      rw [hy] at hw
      rw [hv, h0, h1]
      exact hw)
    (by
      intro i
      have h0 : (i 0 : Nat) < 4096 := (i 0).isLt
      have h1 : (i 1 : Nat) < 8 := (i 1).isLt
      have hN : cfg0.N = 16 := N_0
      obtain ⟨u, hu⟩ : ∃ u : Fin cfg0.N, u.val = 2 * ((i 0 : Nat) / 512) + 1 := ⟨⟨2 * ((i 0 : Nat) / 512) + 1, by omega⟩, rfl⟩
      refine ⟨u, (flush0_1 u).mpr (by omega), ?_⟩
      show i ∈ ((View.whole main_v1).slice (win0_1.rect u)).set
      rw [View.set_slice_whole, Rect.mem_set_unit]
      intro a
      match a with
      | ⟨0, _⟩ =>
        show win0_1.index u 0 * 512 ≤ (i 0 : Nat) ∧ (i 0 : Nat) < win0_1.index u 0 * 512 + 512
        rw [(index_out u).1]
        omega
      | ⟨1, _⟩ =>
        show win0_1.index u 1 * 8 ≤ (i 1 : Nat) ∧ (i 1 : Nat) < win0_1.index u 1 * 8 + 8
        rw [(index_out u).2]
        omega)
  exact h (ix2 R k) t

/-- The kernel's rows are the argument's: row `32 b + s` is row `(b, s)`. -/
theorem rows_apply (c : Dev nD) (b : Fin 128) (s : Fin 32) (n : Fin 8192) :
    rows m c (ix2 (⟨32 * b.val + s.val, by omega⟩ : Fin 4096) n) = m ((c : Thread nD τ).loc main_arg0) (ix3 b s n) := by
  have e : rows m c = shapeCast S4096x8192 (m ((c : Thread nD τ).loc main_arg0)) shapeCasts_S128x32x8192_S4096x8192 := by
    unfold rows
    entry_read
    rfl
  rw [e]
  refine shapeCast_apply _ _ _ _ ?_
  refine (Shape.rowMajor_val_three (d := ![128, 32, 8192]) _).trans
    (Eq.trans ?_ (Shape.rowMajor_val_two (d := ![4096, 8192]) _).symm)
  show (b.val * 32 + s.val) * 8192 + n.val = (32 * b.val + s.val) * 8192 + n.val
  omega

/-- What the kernel's result ends holding: its result array, reshaped. -/
def result (c : Dev nD) : Vec Ideal S128x32x8 .f32 :=
  shapeCast S128x32x8 ((dats m 0 c).arrAt 1 cfg0.N : Vec Ideal S4096x8 .f32) shapeCasts_S4096x8_S128x32x8

/-- Its value at row `(b, s)`, position `k`, reaches `t` exactly when more than `k` of the argument's row's elements do. -/
theorem result_reaches (c : Dev nD) (b : Fin 128) (s : Fin 32) (k : Fin 8) (t : EReal) :
    t ≤ result m c (ix3 b s k)
      ↔ k.val < reach (α := EReal) t fun n : Fin 8192 => m ((c : Thread nD τ).loc main_arg0) (ix3 b s n) := by
  have h := array_reaches m c (⟨32 * b.val + s.val, by omega⟩ : Fin 4096) k t
  rw [show (fun n : Fin 8192 => rows m c (ix2 (⟨32 * b.val + s.val, by omega⟩ : Fin 4096) n)) = _ from
    funext fun n => rows_apply m c b s n] at h
  refine Iff.trans (Iff.of_eq (congrArg (fun v : EReal => t ≤ v) ?_)) h
  refine shapeCast_apply _ _ _ _ ?_
  refine (Shape.rowMajor_val_two (d := ![4096, 8]) _).trans
    (Eq.trans ?_ (Shape.rowMajor_val_three (d := ![128, 32, 8]) _).symm)
  show (32 * b.val + s.val) * 8 + k.val = (b.val * 32 + s.val) * 8 + k.val
  omega

/-- The run, read: the result and the unchanged argument. -/
theorem run_result : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0) := by
  refine (θ_run defs _ _).mono (fun r h c => ⟨?_, ?_⟩) (run_main m ρ)
  · refine ((h c).2 main_v2 (Pipeline.mem_restRefs_of main_v2 (by decide) (by decide))).trans ?_
    unfold Pipeline.afterTail₀
    simp only [List.flatten_cons, List.flatten_nil, List.append_nil, StableHlo.after_cons, StableHlo.after_nil]
    rw [StableHlo.reshape_result]
    have e := Pipeline.withArrays_arr spec0 (by decide) c (V0 m c) (fun w => (dats m 0 c).arrAt w cfg0.N) 1
    exact congrArg (fun x : Vec Ideal S4096x8 .f32 => shapeCast S128x32x8 x shapeCasts_S4096x8_S128x32x8) e
  · exact ((h c).2 main_arg0 (Pipeline.mem_restRefs_of main_arg0 (by decide) (by decide))).trans (W_main_arg0 m (dats m) c)

end Cert.TopK

end
-- ==== Proof.Reference.lean ====
/- The reference, by thresholds: the value at position `i` of a descending sort reaches `t` exactly when more than `i`
   members of what is sorted do. -/
module

public import proofs.«01_k».proof.Proof.Network
public import proofs.«01_k».proof.Proof.Gen.ReferenceIdeal.Run
public import Idealize.ShloMosaic.PureOps.Ideal.Laws
public import Idealize.ShloMosaic.Lib.SortFacts
public import Idealize.ShloMosaic.Lib.ValueIdx
public import Idealize.ShloMosaic.Lib.Pipeline.Value
public import Mathlib.Order.Interval.Finset.Fin

@[expose] public section

noncomputable section

namespace Cert.TopK

open Idealize.ShloMosaic Idealize.ShloMosaic.ValueIdx
open Cert.ReferenceIdeal Cert.ReferenceIdeal.Gen

/-- A property that holds at all positions below one where it holds, holds at position `i` exactly when it holds at more
    than `i` positions. -/
theorem holds_iff_lt_count {n : ℕ} (p : Fin n → Prop) [DecidablePred p] (hp : ∀ i j, i < j → p j → p i) (i : Fin n) :
    p i ↔ i.val < ∑ k, if p k then 1 else 0 := by
  rw [← Finset.card_filter]
  constructor
  · intro h
    have hsub : Finset.Iic i ⊆ Finset.univ.filter p := by
      intro k hk
      rcases (Finset.mem_Iic.mp hk).eq_or_lt with e | hlt
      · exact Finset.mem_filter.mpr ⟨Finset.mem_univ k, e ▸ h⟩
      · exact Finset.mem_filter.mpr ⟨Finset.mem_univ k, hp k i hlt h⟩
    have := Finset.card_le_card hsub
    rw [Fin.card_Iic] at this
    exact this
  · intro h
    by_contra hn
    have hsub : Finset.univ.filter p ⊆ Finset.Iio i := by
      intro k hk
      rw [Finset.mem_Iio]
      by_contra hle
      rcases (not_lt.mp hle).eq_or_lt with e | hlt
      · exact hn (e ▸ (Finset.mem_filter.mp hk).2)
      · exact hn (hp i k hlt (Finset.mem_filter.mp hk).2)
    have := Finset.card_le_card hsub
    rw [Fin.card_Iio] at this
    exact absurd h (not_lt.mpr this)

/-- The value at position `i` of the descending sort of `f` reaches `t` exactly when more than `i` members of `f` do. -/
theorem sorted_reaches {n : ℕ} (f : Fin n → EReal) (R : Fin n → Fin n → Bool)
    (hR : ∀ k k', R k k' = decide (f k' < f k)) (i : Fin n) (t : EReal) :
    t ≤ f (sortedFrom R i) ↔ i.val < reach t f := by
  have hsort : ∀ a b, a < b → f (sortedFrom R b) ≤ f (sortedFrom R a) := by
    intro a b hab
    have := sortedFrom_noInversion R R
      (fun x y h => by
        rw [hR] at h ⊢
        exact decide_eq_false (not_lt.mpr (of_decide_eq_true h).le))
      (fun _ _ h => h)
      (fun x y z hxy hyz => by
        rw [hR] at hxy hyz ⊢
        exact decide_eq_false (not_lt.mpr ((not_lt.mp (of_decide_eq_false hxy)).trans (not_lt.mp (of_decide_eq_false hyz)))))
      a b hab
    rw [hR] at this
    exact not_lt.mp (of_decide_eq_false this)
  have hsum : reach t f = ∑ k, if t ≤ f (sortedFrom R k) then 1 else 0 :=
    (Equiv.sum_comp (Equiv.ofBijective (sortedFrom R) ⟨sortedFrom_injective R, sortedFrom_surjective R⟩)
      (fun k => if t ≤ f k then 1 else 0)).symm
  rw [hsum]
  exact holds_iff_lt_count (fun k => t ≤ f (sortedFrom R k)) (fun a b hab h => h.trans (hsort a b hab)) i

/-- The first result of a sort of two operands: the first operand at the position sorted there. -/
theorem sort2_fst {α β : Type} (s : Shape) (d : ℕ) (cmp : α × β → α × β → BitVec 1) (x : s.Idx → α) (y : s.Idx → β)
    (hd : d < s.rank) (j : s.Idx) :
    (Host.sort2 s d cmp x y).1 j
      = x (j.along ⟨d, hd⟩ (sortedFrom (fun k k' => cmp (x (j.along ⟨d, hd⟩ k), y (j.along ⟨d, hd⟩ k))
          (x (j.along ⟨d, hd⟩ k'), y (j.along ⟨d, hd⟩ k')) == 1#1) (j ⟨d, hd⟩))) := by
  unfold Host.sort2
  rw [dif_pos hd]

/-- The reference's value at row `(b, s)`, position `k`, reaches `t` exactly when more than `k` of the row's elements do. -/
theorem reference_reaches (x : (⟨S128x32x8192, .f32⟩ : BufTy).Contents (Elt Ideal)) (b : Fin 128) (s : Fin 32) (k : Fin 8)
    (t : EReal) :
    t ≤ (Host.topK S128x32x8 2 (FloatOps.cmpfTotal (F := Ideal) (φ := .f32) .gt) x sliceFits_S128x32x8192_S128x32x8).1 (ix3 b s k)
      ↔ k.val < reach (α := EReal) t fun n : Fin 8192 => x (ix3 b s n) := by
  have hrow : ∀ n : Fin 8192, Shape.Idx.along (s := S128x32x8192)
      (ix3 b s (⟨k.val, by omega⟩ : Fin 8192)) (2 : Fin 3) n = ix3 b s n := by
    intro n
    funext a
    match a with
    | ⟨0, _⟩ => rfl
    | ⟨1, _⟩ => rfl
    | ⟨2, _⟩ => rfl
  have h := sorted_reaches (fun n : Fin 8192 => (x (ix3 b s n) : EReal))
    (fun n n' => FloatOps.cmpfTotal (F := Ideal) (φ := .f32) .gt (x (ix3 b s n)) (x (ix3 b s n')) == 1#1)
    (fun n n' => by
      show (BitVec.ofBool (decide _) == 1#1) = _
      by_cases e : (x (ix3 b s n') : EReal) < x (ix3 b s n)
      · simp [e]
      · simp [e])
    (⟨k.val, by omega⟩ : Fin 8192) t
  refine Iff.trans (Iff.of_eq (congrArg (fun v : EReal => t ≤ v) ?_)) h
  unfold Host.topK
  dsimp only
  refine (extractStridedSlice_apply (s := S128x32x8192) (t := S128x32x8) _ _ _ (ix3 b s k)
    (ix3 b s (⟨k.val, by omega⟩ : Fin 8192)) ?_).trans ?_
  · intro a
    match a with
    | ⟨0, _⟩ => exact (Nat.zero_add _).symm
    | ⟨1, _⟩ => exact (Nat.zero_add _).symm
    | ⟨2, _⟩ => exact (Nat.zero_add _).symm
  · rw [sort2_fst _ _ _ _ _ (by decide), show (⟨2, by decide⟩ : Fin S128x32x8192.rank) = (2 : Fin 3) from rfl]
    refine (congrArg x (hrow _)).trans ?_
    exact congrArg (fun R : Fin 8192 → Fin 8192 → Bool => x (ix3 b s (sortedFrom R ⟨k.val, by omega⟩)))
      (funext fun n => funext fun n' => congrArg₂
        (fun i i' => FloatOps.cmpfTotal (F := Ideal) (φ := .f32) .gt (x i) (x i') == 1#1) (hrow n) (hrow n'))

end Cert.TopK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The reference's values are what the kernel's result ends holding, on the same argument. -/
theorem values_eq (m : (ℓ : Loc KernelIdeal.nD KernelIdeal.τ KernelIdeal.sig) → Buf (Elt Ideal) ℓ)
    (c : Dev KernelIdeal.nD) :
    (Host.topK ReferenceIdeal.S128x32x8 2 (FloatOps.cmpfTotal (F := Ideal) (φ := .f32) .gt)
      (m ((c.tc : Thread KernelIdeal.nD KernelIdeal.τ).loc KernelIdeal.main_arg0) :
        (⟨ReferenceIdeal.S128x32x8192, .f32⟩ : BufTy).Contents (Elt Ideal))
      ReferenceIdeal.Gen.sliceFits_S128x32x8192_S128x32x8).1 = TopK.result m c := by
  funext j
  have hj : j = (ix3 (j 0) (j 1) (j 2) : ReferenceIdeal.S128x32x8.Idx) := eq_ix3 j
  rw [hj]
  refine eq_of_forall_le_iff (α := EReal) fun t => ?_
  exact (TopK.reference_reaches _ (j 0) (j 1) (j 2) t).trans (TopK.result_reaches m c (j 0) (j 1) (j 2) t).symm

/-- Over the extended reals, kernel and reference end with equal results from equal arguments. -/
theorem algebraic : Cert.algebraic_KernelIdeal_ReferenceIdeal
    (hKernelIdeal := KernelIdeal.Gen.facts) (hReferenceIdeal := ReferenceIdeal.Gen.facts) := by
  intro m g m' g' _ hagree
  refine ⟨fun c => TopK.result m c, TopK.run_result m g, ?_⟩
  refine (θ_run ReferenceIdeal.defs _ _).mono (fun r h c => ⟨(h c).1.trans ?_, (h c).2⟩)
    (ReferenceIdeal.Value.run (F := Ideal) m' g')
  rw [hagree c]
  exact values_eq m c

/-- Everything the certificate claims. -/
theorem claim : Cert.Claim :=
  ⟨Kernel.Gen.facts, KernelIdeal.Gen.facts, ReferenceIdeal.Gen.facts,
    fun m ρ _ => Kernel.Gen.frame m ρ, fun m ρ _ => KernelIdeal.Gen.frame m ρ,
    fun m ρ _ => (θ_run ReferenceIdeal.defs _ _).mono
      (fun r h => ⟨fun c => (h c).2, sem_eq_zero_of_no_sems (by decide) r.2⟩)
      (ReferenceIdeal.Value.run (F := Ideal) m ρ),
    trivial, algebraic⟩

end Cert.Proof

end
